-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x384x2560 : Shape := ⟨3, ![3, 384, 2560]⟩
abbrev S1280x19456 : Shape := ⟨2, ![1280, 19456]⟩
abbrev S20x19456 : Shape := ⟨2, ![20, 19456]⟩
abbrev S1152x2560 : Shape := ⟨2, ![1152, 2560]⟩
abbrev S1152x19456 : Shape := ⟨2, ![1152, 19456]⟩
abbrev S1280x1024 : Shape := ⟨2, ![1280, 1024]⟩
abbrev S20x1024 : Shape := ⟨2, ![20, 1024]⟩
abbrev S1152x1024 : Shape := ⟨2, ![1152, 1024]⟩
abbrev S2560x1024 : Shape := ⟨2, ![2560, 1024]⟩
abbrev S256x256 : Shape := ⟨2, ![256, 256]⟩
abbrev S1152x256 : Shape := ⟨2, ![1152, 256]⟩
abbrev S128x1024 : Shape := ⟨2, ![128, 1024]⟩
abbrev S1x1024 : Shape := ⟨2, ![1, 1024]⟩
abbrev S384x2560 : Shape := ⟨2, ![384, 2560]⟩
abbrev S384x1024 : Shape := ⟨2, ![384, 1024]⟩
abbrev S3x384x19456 : Shape := ⟨3, ![3, 384, 19456]⟩

abbrev nBuf : Space → Nat
  | .hbm => 6
  | .vmem => 9
  | .smem => 0
  | _ => 0

abbrev bufTy : (tb : Table) → Fin (tcTables nBuf tb) → BufTy
  | .hbm, ⟨0, _⟩ => ⟨S3x384x2560, .bf16⟩
  | .hbm, ⟨1, _⟩ => ⟨S1280x19456, .i8⟩
  | .hbm, ⟨2, _⟩ => ⟨S20x19456, .bf16⟩
  | .hbm, ⟨3, _⟩ => ⟨S1152x2560, .bf16⟩
  | .hbm, ⟨4, _⟩ => ⟨S1152x19456, .bf16⟩
  | .hbm, ⟨5, _⟩ => ⟨S3x384x19456, .bf16⟩
  | .local _ .vmem, ⟨0, _⟩ => ⟨S1152x2560, .bf16⟩
  | .local _ .vmem, ⟨1, _⟩ => ⟨S1280x1024, .i8⟩
  | .local _ .vmem, ⟨2, _⟩ => ⟨S1280x1024, .i8⟩
  | .local _ .vmem, ⟨3, _⟩ => ⟨S20x1024, .bf16⟩
  | .local _ .vmem, ⟨4, _⟩ => ⟨S20x1024, .bf16⟩
  | .local _ .vmem, ⟨5, _⟩ => ⟨S1152x1024, .bf16⟩
  | .local _ .vmem, ⟨6, _⟩ => ⟨S1152x1024, .bf16⟩
  | .local _ .vmem, ⟨7, _⟩ => ⟨S1152x2560, .bf16⟩
  | .local _ .vmem, ⟨8, _⟩ => ⟨S2560x1024, .bf16⟩
  | _, _ => ⟨S3x384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S3x384x2560 : Shape := ⟨3, ![3, 384, 2560]⟩
abbrev S1280x19456 : Shape := ⟨2, ![1280, 19456]⟩
abbrev S20x19456 : Shape := ⟨2, ![20, 19456]⟩
abbrev S2x2 : Shape := ⟨2, ![2, 2]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S3x384x20x128 : Shape := ⟨4, ![3, 384, 20, 128]⟩
abbrev S10x19456 : Shape := ⟨2, ![10, 19456]⟩
abbrev S10x128x19456 : Shape := ⟨3, ![10, 128, 19456]⟩
abbrev S10x1x19456 : Shape := ⟨3, ![10, 1, 19456]⟩
abbrev S3x384x1280 : Shape := ⟨3, ![3, 384, 1280]⟩
abbrev S3x384x19456 : Shape := ⟨3, ![3, 384, 19456]⟩

abbrev nBuf : Space → Nat
  | .hbm => 100
  | .vmem => 0
  | .smem => 0
  | _ => 0

abbrev bufTy : (tb : Table) → Fin (tcTables nBuf tb) → BufTy
  | .hbm, ⟨0, _⟩ => ⟨S3x384x2560, .bf16⟩
  | .hbm, ⟨1, _⟩ => ⟨S1280x19456, .i8⟩
  | .hbm, ⟨2, _⟩ => ⟨S20x19456, .bf16⟩
  | .hbm, ⟨3, _⟩ => ⟨S2x2, .f32⟩
  | .hbm, ⟨4, _⟩ => ⟨S_, .f32⟩
  | .hbm, ⟨5, _⟩ => ⟨S1x1, .f32⟩
  | .hbm, ⟨6, _⟩ => ⟨S1x1x1x1, .f32⟩
  | .hbm, ⟨7, _⟩ => ⟨S1x2x1x2, .f32⟩
  | .hbm, ⟨8, _⟩ => ⟨S1x2x1x2, .f32⟩
  | .hbm, ⟨9, _⟩ => ⟨S1x2x1x2, .f32⟩
  | .hbm, ⟨10, _⟩ => ⟨S2x2, .f32⟩
  | .hbm, ⟨11, _⟩ => ⟨S2x1x2x1, .f32⟩
  | .hbm, ⟨12, _⟩ => ⟨S1x2x1x2, .f32⟩
  | .hbm, ⟨13, _⟩ => ⟨S2x2x2x2, .f32⟩
  | .hbm, ⟨14, _⟩ => ⟨S2x2x2x2, .f32⟩
  | .hbm, ⟨15, _⟩ => ⟨S2x2x2x2, .f32⟩
  | .hbm, ⟨16, _⟩ => ⟨S4x4, .f32⟩
  | .hbm, ⟨17, _⟩ => ⟨S4x1x4x1, .f32⟩
  | .hbm, ⟨18, _⟩ => ⟨S1x2x1x2, .f32⟩
  | .hbm, ⟨19, _⟩ => ⟨S4x2x4x2, .f32⟩
  | .hbm, ⟨20, _⟩ => ⟨S4x2x4x2, .f32⟩
  | .hbm, ⟨21, _⟩ => ⟨S4x2x4x2, .f32⟩
  | .hbm, ⟨22, _⟩ => ⟨S8x8, .f32⟩
  | .hbm, ⟨23, _⟩ => ⟨S8x1x8x1, .f32⟩
  | .hbm, ⟨24, _⟩ => ⟨S1x2x1x2, .f32⟩
  | .hbm, ⟨25, _⟩ => ⟨S8x2x8x2, .f32⟩
  | .hbm, ⟨26, _⟩ => ⟨S8x2x8x2, .f32⟩
  | .hbm, ⟨27, _⟩ => ⟨S8x2x8x2, .f32⟩
  | .hbm, ⟨28, _⟩ => ⟨S16x16, .f32⟩
  | .hbm, ⟨29, _⟩ => ⟨S16x1x16x1, .f32⟩
  | .hbm, ⟨30, _⟩ => ⟨S1x2x1x2, .f32⟩
  | .hbm, ⟨31, _⟩ => ⟨S16x2x16x2, .f32⟩
  | .hbm, ⟨32, _⟩ => ⟨S16x2x16x2, .f32⟩
  | .hbm, ⟨33, _⟩ => ⟨S16x2x16x2, .f32⟩
  | .hbm, ⟨34, _⟩ => ⟨S32x32, .f32⟩
  | .hbm, ⟨35, _⟩ => ⟨S32x1x32x1, .f32⟩
  | .hbm, ⟨36, _⟩ => ⟨S1x2x1x2, .f32⟩
  | .hbm, ⟨37, _⟩ => ⟨S32x2x32x2, .f32⟩
  | .hbm, ⟨38, _⟩ => ⟨S32x2x32x2, .f32⟩
  | .hbm, ⟨39, _⟩ => ⟨S32x2x32x2, .f32⟩
  | .hbm, ⟨40, _⟩ => ⟨S64x64, .f32⟩
  | .hbm, ⟨41, _⟩ => ⟨S64x1x64x1, .f32⟩
  | .hbm, ⟨42, _⟩ => ⟨S1x2x1x2, .f32⟩
  | .hbm, ⟨43, _⟩ => ⟨S64x2x64x2, .f32⟩
  | .hbm, ⟨44, _⟩ => ⟨S64x2x64x2, .f32⟩
  | .hbm, ⟨45, _⟩ => ⟨S64x2x64x2, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S3x384x2560, .f32⟩
  | .hbm, ⟨51, _⟩ => ⟨S3x384x20x128, .f32⟩
  | .hbm, ⟨52, _⟩ => ⟨S3x384x20x128, .f32⟩
  | .hbm, ⟨53, _⟩ => ⟨S3x384x2560, .f32⟩
  | .hbm, ⟨54, _⟩ => ⟨S3x384x2560, .bf16⟩
  | .hbm, ⟨55, _⟩ => ⟨S1280x19456, .i32⟩
  | .hbm, ⟨56, _⟩ => ⟨S_, .i32⟩
  | .hbm, ⟨57, _⟩ => ⟨S1280x19456, .i32⟩
  | .hbm, ⟨58, _⟩ => ⟨S1280x19456, .i32⟩
  | .hbm, ⟨59, _⟩ => ⟨S10x19456, .bf16⟩
  | .hbm, ⟨60, _⟩ => ⟨S1280x19456, .i8⟩
  | .hbm, ⟨61, _⟩ => ⟨S1280x19456, .i32⟩
  | .hbm, ⟨62, _⟩ => ⟨S_, .i32⟩
  | .hbm, ⟨63, _⟩ => ⟨S1280x19456, .i32⟩
  | .hbm, ⟨64, _⟩ => ⟨S1280x19456, .i1⟩
  | .hbm, ⟨65, _⟩ => ⟨S_, .i32⟩
  | .hbm, ⟨66, _⟩ => ⟨S1280x19456, .i32⟩
  | .hbm, ⟨67, _⟩ => ⟨S1280x19456, .i32⟩
  | .hbm, ⟨68, _⟩ => ⟨S1280x19456, .i32⟩
  | .hbm, ⟨69, _⟩ => ⟨S1280x19456, .bf16⟩
  | .hbm, ⟨70, _⟩ => ⟨S10x128x19456, .bf16⟩
  | .hbm, ⟨71, _⟩ => ⟨S10x1x19456, .bf16⟩
  | .hbm, ⟨72, _⟩ => ⟨S10x128x19456, .bf16⟩
  | .hbm, ⟨73, _⟩ => ⟨S10x128x19456, .bf16⟩
  | .hbm, ⟨74, _⟩ => ⟨S1280x19456, .bf16⟩
  | .hbm, ⟨75, _⟩ => ⟨S_, .i32⟩
  | .hbm, ⟨76, _⟩ => ⟨S1280x19456, .i32⟩
  | .hbm, ⟨77, _⟩ => ⟨S1280x19456, .i32⟩
  | .hbm, ⟨78, _⟩ => ⟨S10x19456, .bf16⟩
  | .hbm, ⟨79, _⟩ => ⟨S1280x19456, .i8⟩
  | .hbm, ⟨80, _⟩ => ⟨S1280x19456, .i32⟩
  | .hbm, ⟨81, _⟩ => ⟨S_, .i32⟩
  | .hbm, ⟨82, _⟩ => ⟨S1280x19456, .i32⟩
  | .hbm, ⟨83, _⟩ => ⟨S1280x19456, .i1⟩
  | .hbm, ⟨84, _⟩ => ⟨S_, .i32⟩
  | .hbm, ⟨85, _⟩ => ⟨S1280x19456, .i32⟩
  | .hbm, ⟨86, _⟩ => ⟨S1280x19456, .i32⟩
  | .hbm, ⟨87, _⟩ => ⟨S1280x19456, .i32⟩
  | .hbm, ⟨88, _⟩ => ⟨S1280x19456, .bf16⟩
  | .hbm, ⟨89, _⟩ => ⟨S10x128x19456, .bf16⟩
  | .hbm, ⟨90, _⟩ => ⟨S10x1x19456, .bf16⟩
  | .hbm, ⟨91, _⟩ => ⟨S10x128x19456, .bf16⟩
  | .hbm, ⟨92, _⟩ => ⟨S10x128x19456, .bf16⟩
  | .hbm, ⟨93, _⟩ => ⟨S1280x19456, .bf16⟩
  | .hbm, ⟨94, _⟩ => ⟨S3x384x1280, .bf16⟩
  | .hbm, ⟨95, _⟩ => ⟨S3x384x19456, .f32⟩
  | .hbm, ⟨96, _⟩ => ⟨S3x384x1280, .bf16⟩
  | .hbm, ⟨97, _⟩ => ⟨S3x384x19456, .f32⟩
  | .hbm, ⟨98, _⟩ => ⟨S3x384x19456, .f32⟩
  | .hbm, ⟨99, _⟩ => ⟨S3x384x19456, .bf16⟩
  | _, _ => ⟨S3x384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v2 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v3 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_call3_v4 : Ref sig .tc := ⟨.hbm, 27, rfl⟩
abbrev main_v4 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v5 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v6 : Ref sig .tc := ⟨.hbm, 40, rfl⟩
abbrev main_call6_v0 : Ref sig .tc := ⟨.hbm, 41, rfl⟩
abbrev main_call6_v1 : Ref sig .tc := ⟨.hbm, 42, rfl⟩
abbrev main_call6_v2 : Ref sig .tc := ⟨.hbm, 43, rfl⟩
abbrev main_call6_v3 : Ref sig .tc := ⟨.hbm, 44, rfl⟩
abbrev main_call6_v4 : Ref sig .tc := ⟨.hbm, 45, rfl⟩
abbrev main_v7 : Ref sig .tc := ⟨.hbm, 46, rfl⟩
abbrev main_cst_1 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_c : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c_2 : Ref sig .tc := ⟨.hbm, 62, rfl⟩
abbrev main_v21 : Ref sig .tc := ⟨.hbm, 63, rfl⟩
abbrev main_v22 : Ref sig .tc := ⟨.hbm, 64, rfl⟩
abbrev main_c_3 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_c_4 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_5 : Ref sig .tc := ⟨.hbm, 81, rfl⟩
abbrev main_v37 : Ref sig .tc := ⟨.hbm, 82, rfl⟩
abbrev main_v38 : Ref sig .tc := ⟨.hbm, 83, rfl⟩
abbrev main_c_6 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩

abbrev nD : Nat := 1
abbrev τ : Topo := Topo.v7x

variable {F : FTy → Type} [FloatOps F]
-- ==== Proof.Words.lean ====
module

public import proofs.«01_k».proof.Proof.Gen.KernelIdeal.Skeleton
public import Idealize.ShloMosaic.Lib.Pointwise

/-! Facts about 32-bit words: the signs and the block numbers the kernel computes, and the nibbles. -/

@[expose] public section

set_option maxRecDepth 16384

namespace Cert.Words

open Idealize.ShloMosaic

/-- The entry of the two-point Hadamard matrix. -/
def hbase (i j : ℕ) : ℤ := if i = 1 ∧ j = 1 then -1 else 1

/-- The entry of the `2^n`-point Hadamard matrix: `n` Kronecker products with the two-point one. -/
def hz : ℕ → ℕ → ℕ → ℤ
  | 0, _, _ => 1
  | n + 1, i, j => hz n (i / 2) (j / 2) * hbase (i % 2) (j % 2)

/-- Every sign entry is one or minus one. -/
theorem hz_sq (n : ℕ) : ∀ i j : ℕ, hz n i j = 1 ∨ hz n i j = -1 := by
  induction n with
  | zero => intro i j; exact Or.inl rfl
  | succ n ih =>
    intro i j
    simp only [hz, hbase]
    rcases ih (i / 2) (j / 2) with h | h <;> rw [h] <;> split <;> simp

/-- The parity of a 7-bit word, by folding it onto its lowest bit. -/
def parWord (w : BitVec 32) : BitVec 1 :=
  IntOp.cmpi CmpIPredicate.eq
    (IntOp.andi
      (IntOp.xori
        (IntOp.xori
          (IntOp.xori w (IntOp.shrsi ArithUnit.vector w 4#32))
          (IntOp.shrsi ArithUnit.vector (IntOp.xori w (IntOp.shrsi ArithUnit.vector w 4#32)) 2#32))
        (IntOp.shrsi ArithUnit.vector
          (IntOp.xori
            (IntOp.xori w (IntOp.shrsi ArithUnit.vector w 4#32))
            (IntOp.shrsi ArithUnit.vector (IntOp.xori w (IntOp.shrsi ArithUnit.vector w 4#32)) 2#32))
          1#32))
      1#32)
    1#32

/-- The floor of a word over 128, by truncating division and a correction. -/
def blkWord (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector w 128#32) 0#32))
    (IntOp.subi (IntOp.divsi ArithUnit.vector w 128#32) 1#32)
    (IntOp.divsi ArithUnit.vector w 128#32)

/-- The block number computed on words is the quotient by 128. -/
theorem blkWord_eq : ∀ i : Fin 256, blkWord (BitVec.ofNat 32 i) = BitVec.ofNat 32 (i.val / 128) := by
  decide +kernel

/-- The parity computed on words gives the sign of the matrix entry. -/
theorem parWord_eq : ∀ i j : Fin 128, parWord (IntOp.andi (IntOp.andi (BitVec.ofNat 32 i) (BitVec.ofNat 32 j)) 127#32)
    = if hz 7 i j = -1 then 1#1 else 0#1 := by
  decide +kernel

end Cert.Words
end
-- ==== Proof.SignWords.lean ====
module

public import proofs.«01_k».proof.Proof.Words
public import Idealize.ShloMosaic.Lib.Pointwise

/-! The signs and the nibbles as the kernel computes them on words, against their plain forms. -/

@[expose] public section

set_option maxRecDepth 16384

namespace Cert.Words

open Idealize.ShloMosaic

/-- Masking two words with 127 only looks at their remainders by 128. -/
theorem low_bits (i j : ℕ) : IntOp.andi (IntOp.andi (BitVec.ofNat 32 i) (BitVec.ofNat 32 j)) 127#32
    = IntOp.andi (IntOp.andi (BitVec.ofNat 32 (i % 128)) (BitVec.ofNat 32 (j % 128))) 127#32 := by
  simp only [IntOp.andi]
  apply BitVec.eq_of_toNat_eq
  simp only [BitVec.toNat_and, BitVec.toNat_ofNat]
  have h : ∀ x : ℕ, x &&& (127 % 2 ^ 32) = x % 2 ^ 7 := fun x => Nat.and_two_pow_sub_one_eq_mod x 7
  rw [h, h, Nat.and_mod_two_pow, Nat.and_mod_two_pow]
  congr 1 <;> omega

/-- The kernel's low nibble, offset by eight, is the signed nibble. -/
theorem nib_lo : ∀ b : BitVec 8,
    IntOp.subi (IntOp.xori (IntOp.andi (IntOp.shrsi ArithUnit.vector (BitVec.setWidth 32 b) 0#32) 15#32) 8#32) 8#32
      = Scalar.select (IntOp.cmpi CmpIPredicate.sge (BitVec.signExtend 32 (BitVec.setWidth 8 (IntOp.andi (BitVec.setWidth 32 b) 15#32))) 8#32)
          (IntOp.subi (BitVec.signExtend 32 (BitVec.setWidth 8 (IntOp.andi (BitVec.setWidth 32 b) 15#32))) 16#32)
          (BitVec.signExtend 32 (BitVec.setWidth 8 (IntOp.andi (BitVec.setWidth 32 b) 15#32))) := by
  decide +kernel

/-- The kernel's high nibble, offset by eight, is the signed nibble. -/
theorem nib_hi : ∀ b : BitVec 8,
    IntOp.subi (IntOp.xori (IntOp.andi (IntOp.shrsi ArithUnit.vector (BitVec.setWidth 32 b) 4#32) 15#32) 8#32) 8#32
      = Scalar.select
          (IntOp.cmpi CmpIPredicate.sge (BitVec.signExtend 32 (BitVec.setWidth 8 (IntOp.shrsi ArithUnit.host (BitVec.setWidth 32 b) 4#32))) 8#32)
          (IntOp.subi (BitVec.signExtend 32 (BitVec.setWidth 8 (IntOp.shrsi ArithUnit.host (BitVec.setWidth 32 b) 4#32))) 16#32)
          (BitVec.signExtend 32 (BitVec.setWidth 8 (IntOp.shrsi ArithUnit.host (BitVec.setWidth 32 b) 4#32))) := by
  decide +kernel

/-- The kernel compares block numbers as words. -/
theorem sameBlk (i j : Fin 256) : IntOp.cmpi CmpIPredicate.eq (blkWord (BitVec.ofNat 32 i)) (blkWord (BitVec.ofNat 32 j))
    = if i.val / 128 = j.val / 128 then 1#1 else 0#1 := by
  rw [blkWord_eq, blkWord_eq]
  have : ∀ a b : Fin 2, IntOp.cmpi CmpIPredicate.eq (BitVec.ofNat 32 a) (BitVec.ofNat 32 b) = if a.val = b.val then 1#1 else 0#1 := by
    decide +kernel
  exact this ⟨i.val / 128, by omega⟩ ⟨j.val / 128, by omega⟩

/-- One entry of the kernel's block-diagonal sign matrix. -/
theorem sign_entry (i j : Fin 256) (p q z : EReal) :
    Scalar.select (IntOp.cmpi CmpIPredicate.eq (blkWord (BitVec.ofNat 32 i)) (blkWord (BitVec.ofNat 32 j)))
      (Scalar.select (parWord (IntOp.andi (IntOp.andi (BitVec.ofNat 32 i) (BitVec.ofNat 32 j)) 127#32)) p q) z
    = if i.val / 128 = j.val / 128 then (if hz 7 (i.val % 128) (j.val % 128) = -1 then p else q) else z := by
  rw [sameBlk, low_bits]
  have := parWord_eq ⟨i.val % 128, by omega⟩ ⟨j.val % 128, by omega⟩
  simp only at this
  rw [this]
  split <;> split <;> rfl

end Cert.Words
end
-- ==== Proof.Blocks.lean ====
module

public import proofs.«01_k».proof.Proof.SignWords
public import proofs.«01_k».proof.Proof.Gen.KernelIdeal.Frame
public import Idealize.ShloMosaic.Lib.Pipeline.ValueKit

/-! What one grid point computes, over the contents of its blocks: the rotated activations, the
dequantised weights and their product. -/

@[expose] public section

set_option maxRecDepth 16384

noncomputable section

namespace Cert.KernelIdeal.KVal

open Idealize.ShloMosaic Idealize.ShloMosaic.TcCoe Idealize.ShloMosaic.Tactic
open Idealize.SL Idealize.SL.Sem
open Cert.KernelIdeal Cert.KernelIdeal.Gen Cert.Words

/-- The block-diagonal matrix of signs. -/
def sgn : FVec Ideal S256x256 .bf16 :=
  k0_pay5 (F := Ideal) (iota .tc S256x256 32 [1] iota_S256x256_d1_w32) k0_pay3 k0_pay4

/-- The activations, each 256-column block multiplied by the signs and the constant. -/
def rotX (x : FVec Ideal S1152x2560 .bf16) : FVec Ideal S1152x2560 .bf16 := fun y =>
  (∑ k : Fin 256, x (ix2 (y 0) ⟨(y 1).val / 256 * 256 + k.val, by have : (y 1).val < 2560 := (y 1).isLt; omega⟩)
      * sgn (ix2 k ⟨(y 1).val % 256, by omega⟩)) * Ideal.ofBits FTy.f32 0x3DB504F3#32

/-- The signed nibble of a byte as the kernel computes it: the low one for a row of the first half. -/
def nib (lo : Bool) (b : BitVec 8) : BitVec 32 :=
  IntOp.subi (IntOp.xori (IntOp.andi (IntOp.shrsi ArithUnit.vector (BitVec.setWidth 32 b) (if lo then 0#32 else 4#32)) 15#32) 8#32) 8#32

/-- The dequantised weights of one block of columns. -/
def deqW (p : IVec S1280x1024 8) (s : FVec Ideal S20x1024 .bf16) : FVec Ideal S2560x1024 .bf16 := fun y =>
  FloatOps.sitofp (F := Ideal) FTy.bf16
      (nib (decide ((y 0).val < 1280)) (p (ix2 ⟨(y 0).val % 1280, by omega⟩ (y 1))))
    * s (ix2 ⟨(y 0).val / 128, by have : (y 0).val < 2560 := (y 0).isLt; omega⟩ (y 1))

/-- A weight row of the first half reads the low nibble of its packed row. -/
theorem deqW_lo (p : IVec S1280x1024 8) (s : FVec Ideal S20x1024 .bf16) (r : Fin 2560) (q : Fin 1024) (h : r.val < 1280) :
    deqW p s (ix2 r q) = FloatOps.sitofp (F := Ideal) FTy.bf16
      (IntOp.subi (IntOp.xori (IntOp.andi (IntOp.shrsi ArithUnit.vector (BitVec.setWidth 32 (p (ix2 ⟨r.val % 1280, by omega⟩ q))) 0#32) 15#32) 8#32) 8#32)
      * s (ix2 ⟨r.val / 128, by omega⟩ q) := by
  have e : decide (r.val < 1280) = true := decide_eq_true h
  show FloatOps.sitofp (F := Ideal) FTy.bf16 (nib (decide (r.val < 1280)) _) * _ = _
  rw [e]; rfl

/-- A weight row of the second half reads the high nibble of the packed row half the depth above it. -/
theorem deqW_hi (p : IVec S1280x1024 8) (s : FVec Ideal S20x1024 .bf16) (r : Fin 2560) (q : Fin 1024) (h : 1280 ≤ r.val) :
    deqW p s (ix2 r q) = FloatOps.sitofp (F := Ideal) FTy.bf16
      (IntOp.subi (IntOp.xori (IntOp.andi (IntOp.shrsi ArithUnit.vector (BitVec.setWidth 32 (p (ix2 ⟨r.val % 1280, by omega⟩ q))) 4#32) 15#32) 8#32) 8#32)
      * s (ix2 ⟨r.val / 128, by omega⟩ q) := by
  have e : decide (r.val < 1280) = false := decide_eq_false (by omega)
  show FloatOps.sitofp (F := Ideal) FTy.bf16 (nib (decide (r.val < 1280)) _) * _ = _
  rw [e]; rfl

/-- Their product. -/
def mulW (a : FVec Ideal S1152x2560 .bf16) (w : FVec Ideal S2560x1024 .bf16) : FVec Ideal S1152x1024 .bf16 := fun y =>
  ∑ k : Fin 2560, a (ix2 (y 0) k) * w (ix2 k (y 1))

/-- A point after the first: the product of the kept activations and its own weights. -/
theorem outB (c : Dev nD) (t : Fin cfg0.N) (h0) (x0 : Vec Ideal S1152x2560 .bf16) (x1 : Vec Ideal S1280x1024 .i8) (x2 : Vec Ideal S20x1024 .bf16) (xs0 : Vec Ideal S1152x2560 .bf16) :
    out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 x0 x1 x2 xs0
      = mulW xs0 (deqW x1 x2) := by
  unfold out0_B_3
  rw [View.read_writes_junk_eq_canon]
  unfold kernelRun0_B
  dsimp only
  sl_unfold_words
  simp only [View.readAt_eq_ld, View.readCov_eq_canon', (hs0_0 t).read_unread, (hs0_1 t).read_unread, (hs0_2 t).read_unread, (hs0_3 t).read_unread]
  generalize hW : View.canon (Val := Elt Ideal) (s := S2560x1024) (e := .bf16) _ = W
  have hW' : W = deqW x1 x2 := by
    subst hW
    funext y
    obtain ⟨r, q, rfl⟩ : ∃ (r : Fin 2560) (q : Fin 1024), y = ix2 r q := ⟨y 0, y 1, eq_ix2 y⟩
    canon_tiles x h
    all_goals
      have e0 : (r : ℕ) = _ := h0
      have e1 : (q : ℕ) = _ := h1
      first
        | refine Eq.trans ?_ (deqW_lo x1 x2 r q (by omega)).symm
        | refine Eq.trans ?_ (deqW_hi x1 x2 r q (by omega)).symm
      open_payloads
      pointwise
      blk_point []
  clear hW
  subst hW'
  funext y
  canon_tiles x h
  all_goals
    open_payloads
    pointwise [mulW]
    rw [(Memref.isWhole_whole cc0_scratch0).read_unread]
    blk_point []

end Cert.KernelIdeal.KVal
end
-- ==== Proof.BlocksFirst.lean ====
module

public import proofs.«01_k».proof.Proof.Blocks

/-! The first grid point, which also fills the scratch with the rotated activations. -/

@[expose] public section

set_option maxRecDepth 16384

noncomputable section

namespace Cert.KernelIdeal.KVal

open Idealize.ShloMosaic Idealize.ShloMosaic.TcCoe Idealize.ShloMosaic.Tactic
open Idealize.SL Idealize.SL.Sem
open Cert.KernelIdeal Cert.KernelIdeal.Gen Cert.Words

/-- One column block of the activations times the signs and the constant: what each of the ten stores holds. -/
def tile (w : FVec Ideal S256x256 .bf16) (v : Vec Ideal S1152x256 .bf16) : FVec Ideal S1152x256 .bf16 := k0_pay10 w v

/-- Such a block at an index. -/
theorem tile_at (w : FVec Ideal S256x256 .bf16) (v : Vec Ideal S1152x256 .bf16) (i : Fin 1152) (j : Fin 256) :
    tile w v (ix2 i j) = (∑ k : Fin 256, v (ix2 i k) * w (ix2 k j)) * Ideal.ofBits FTy.f32 0x3DB504F3#32 := by
  pointwise [tile, k0_pay10]

/-- One column tile of the rotated activations agrees with the whole rotation. -/
theorem tile_rot (x : FVec Ideal S1152x2560 .bf16) (v : Vec Ideal S1152x256 .bf16) (i : Fin 1152) (j : Fin 256) (r : Fin 1152) (q : Fin 2560)
    (hv : ∀ k : Fin 256, v (ix2 i k) = x (ix2 i ⟨q.val / 256 * 256 + k.val, by omega⟩)) (hr : r = i) (hj : q.val % 256 = j.val) :
    tile sgn v (ix2 i j) = rotX x (ix2 r q) := by
  subst hr
  rw [tile_at]
  have ej : (⟨q.val % 256, by omega⟩ : Fin 256) = j := Fin.ext hj
  show _ = (∑ k : Fin 256, x (ix2 r ⟨q.val / 256 * 256 + k.val, _⟩) * sgn (ix2 k ⟨q.val % 256, _⟩)) * _
  simp only [hv, ej]

/-- The scratch after the first point. -/
theorem scrA (c : Dev nD) (t : Fin cfg0.N) (h0) (x0 : Vec Ideal S1152x2560 .bf16) (x1 : Vec Ideal S1280x1024 .i8) (x2 : Vec Ideal S20x1024 .bf16) :
    sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 x0 x1 x2
      = rotX x0 := by
  unfold sout0_A_0
  rw [View.read_writes_junk_eq_canon]
  unfold kernelRun0_A
  dsimp only
  sl_unfold_words
  simp only [View.readAt_eq_ld, View.readCov_eq_canon', (hs0_0 t).read_unread, (hs0_1 t).read_unread, (hs0_2 t).read_unread, (hs0_3 t).read_unread]
  funext y
  obtain ⟨r, q, rfl⟩ : ∃ (r : Fin 1152) (q : Fin 2560), y = ix2 r q := ⟨y 0, y 1, eq_ix2 y⟩
  canon_tiles x h
  all_goals
    obtain ⟨i, j, rfl⟩ : ∃ (i : Fin 1152) (j : Fin 256), x = ix2 i j := ⟨x 0, x 1, eq_ix2 x⟩
    have e0 : (r : ℕ) = i := h0
    have e1 : (q : ℕ) = _ := h1
    have e2 : (j : ℕ) < 256 := j.isLt
    refine tile_rot x0 _ i j r q ?_ (Fin.ext e0) ?_
    · intro k
      pointwise
      blk_point []
    · first
        | change (q : ℕ) = _ + (j : ℕ) at e1
        | change (q : ℕ) = (j : ℕ) at e1
      omega

/-- The output of the first point. -/
theorem outA (c : Dev nD) (t : Fin cfg0.N) (h0) (x0 : Vec Ideal S1152x2560 .bf16) (x1 : Vec Ideal S1280x1024 .i8) (x2 : Vec Ideal S20x1024 .bf16) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 x0 x1 x2
      = mulW (rotX x0) (deqW x1 x2) := by
  unfold out0_A_3
  rw [View.read_writes_junk_eq_canon]
  unfold kernelRun0_A
  dsimp only
  sl_unfold_words
  simp only [View.readAt_eq_ld, View.readCov_eq_canon', (hs0_0 t).read_unread, (hs0_1 t).read_unread, (hs0_2 t).read_unread, (hs0_3 t).read_unread]
  generalize hW : View.canon (Val := Elt Ideal) (s := S2560x1024) (e := .bf16) _ = W
  have hW' : W = deqW x1 x2 := by
    subst hW
    funext y
    obtain ⟨r, q, rfl⟩ : ∃ (r : Fin 2560) (q : Fin 1024), y = ix2 r q := ⟨y 0, y 1, eq_ix2 y⟩
    canon_tiles x h
    all_goals
      have e0 : (r : ℕ) = _ := h0
      have e1 : (q : ℕ) = _ := h1
      first
        | refine Eq.trans ?_ (deqW_lo x1 x2 r q (by omega)).symm
        | refine Eq.trans ?_ (deqW_hi x1 x2 r q (by omega)).symm
      open_payloads
      pointwise
      blk_point []
  clear hW
  subst hW'
  generalize hX : View.canon (Val := Elt Ideal) (s := S1152x2560) (e := .bf16) _ = X
  have hX' : X = rotX x0 := by
    subst hX
    rw [← scrA c t h0 x0 x1 x2]
    unfold sout0_A_0
    rw [View.read_writes_junk_eq_canon]
    unfold kernelRun0_A
    dsimp only
    sl_unfold_words
    simp only [View.readAt_eq_ld, View.readCov_eq_canon', (hs0_0 t).read_unread, (hs0_1 t).read_unread, (hs0_2 t).read_unread, (hs0_3 t).read_unread]
  clear hX
  subst hX'
  funext y
  canon_tiles x h
  all_goals
    open_payloads
    pointwise [mulW]
    blk_point []

end Cert.KernelIdeal.KVal
end
-- ==== Proof.KernelValue.lean ====
module

public import proofs.«01_k».proof.Proof.BlocksFirst
public import Idealize.ShloMosaic.Lib.Claim

/-! The kernel's result array after all grid points. -/

@[expose] public section

set_option maxRecDepth 16384

noncomputable section

namespace Cert.KernelIdeal.KVal

open Idealize.ShloMosaic Idealize.ShloMosaic.TcCoe Idealize.ShloMosaic.Tactic
open Idealize.SL Idealize.SL.Sem
open Cert.KernelIdeal Cert.KernelIdeal.Gen Cert.Words

variable (m : (ℓ : Loc nD τ sig) → Buf (Elt Ideal) ℓ)

/-- Which block each window shows at each grid point. -/
theorem idx : ∀ t : Fin cfg0.N, win0_0.index t = ![0, 0] ∧ win0_1.index t = ![0, t.val] ∧ win0_2.index t = ![0, t.val]
    ∧ win0_3.index t = ![0, t.val] ∧ t.val < 19 :=
  (by decide +kernel : ∀ t : Fin grid0.N, _)

/-- The activations the region reads. -/
def xin (c : Dev nD) : FVec Ideal S1152x2560 .bf16 := V m c main_v0

/-- Every point's activations block is the whole array. -/
theorem iblk0 (c : Dev nD) (t : Fin cfg0.N) : iblk m c 0 t = xin m c := by
  unfold xin
  blk_ext! [iblk, idx t]

/-- The scratch holds the rotated activations after every point. -/
theorem scr (c : Dev nD) : ∀ (n : ℕ) (t : Fin cfg0.N), t.val = n → (outsAt0 m c t.val t.isLt).2 = rotX (xin m c) := by
  intro n
  induction n with
  | zero =>
    intro t ht
    rw [outsAt0_A m c t (by omega)]
    dsimp only
    rw [scrA, iblk0]
  | succ n ih =>
    intro t ht
    have hlt := (idx t).2.2.2.2
    rw [outsAt0_B m c t (by omega)]
    dsimp only
    unfold sout0_B_0
    exact ih ⟨t.val - 1, Nat.lt_of_le_of_lt (Nat.sub_le _ _) t.isLt⟩ (by simp only; omega)

/-- What every point leaves in its output block. -/
theorem point (c : Dev nD) (t : Fin cfg0.N) : (outsAt0 m c t.val t.isLt).1 = mulW (rotX (xin m c)) (deqW (iblk m c 1 t) (iblk m c 2 t)) := by
  by_cases h0 : t.val % 19 = 0
  · rw [outsAt0_A m c t h0]
    dsimp only
    rw [outA, iblk0]
  · rw [outsAt0_B m c t h0]
    dsimp only
    have hp := scr m c (t.val - 1) ⟨t.val - 1, Nat.lt_of_le_of_lt (Nat.sub_le _ _) t.isLt⟩ rfl
    dsimp only at hp
    rw [outB, hp]

/-- One entry of the dequantised weights, over the whole arrays. -/
def deq (p : IVec S1280x19456 8) (s : FVec Ideal S20x19456 .bf16) (k : Fin 2560) (n : Fin 19456) : EReal :=
  FloatOps.sitofp (F := Ideal) FTy.bf16 (nib (decide (k.val < 1280)) (p (ix2 ⟨k.val % 1280, by omega⟩ n)))
    * s (ix2 ⟨k.val / 128, by omega⟩ n)

/-- The kernel's product over the whole arrays. -/
def kout (x : FVec Ideal S1152x2560 .bf16) (p : IVec S1280x19456 8) (s : FVec Ideal S20x19456 .bf16) : FVec Ideal S1152x19456 .bf16 := fun y =>
  ∑ k : Fin 2560, rotX x (ix2 (y 0) k) * deq p s k (y 1)

/-- The result array after the run. -/
theorem final (c : Dev nD) : (dats m 0 c).arrAt 3 (cfgs 0).N
    = kout (xin m c) (m ((c : Thread nD τ).loc main_arg1)) (m ((c : Thread nD τ).loc main_arg2)) := by
  refine (dats m 0 c).arrAt_eq_of_covers 3 _ (by decide +kernel) fun t _ y => ?_
  blk_simp
  rw [after0_3, point]
  pointwise [mulW, kout, deqW, deq]
  blk_point [iblk, V, idx t]

end Cert.KernelIdeal.KVal
end
-- ==== Proof.KernelResult.lean ====
module

public import proofs.«01_k».proof.Proof.KernelValue

/-! The kernel's result buffer: the result array, reshaped. -/

@[expose] public section

set_option maxRecDepth 16384

noncomputable section

namespace Cert.KernelIdeal.KVal

open Idealize.ShloMosaic Idealize.ShloMosaic.TcCoe Idealize.ShloMosaic.Tactic
open Idealize.SL Idealize.SL.Sem
open Cert.KernelIdeal Cert.KernelIdeal.Gen Cert.Words

variable (m : (ℓ : Loc nD τ sig) → Buf (Elt Ideal) ℓ)

/-- The region reads the first argument with its leading axes joined. -/
theorem xin_eq (c : Dev nD) : xin m c = shapeCast S1152x2560 (m ((c : Thread nD τ).loc main_arg0)) shapeCasts_S3x384x2560_S1152x2560 := by
  unfold xin V V0 hostOps0
  simp only [List.flatten_cons, List.flatten_nil, List.append_nil]
  after_results
  rfl

/-- The result after the last reshape. -/
theorem tail_out (c : Dev nD) : Pipeline.afterTail₀ cfgs (dats m) 0 (V0 m) [hostOps1] c main_v2
    = shapeCast S3x384x19456 (kout (xin m c) (m ((c : Thread nD τ).loc main_arg1)) (m ((c : Thread nD τ).loc main_arg2))) shapeCasts_S1152x19456_S3x384x19456 := by
  rw [← final m c]
  unfold Pipeline.afterTail₀
  simp only [List.flatten_cons, List.flatten_nil, List.append_nil]
  after_results
  have h := Pipeline.withArrays_arr (cfgs 0).spec (by decide) c (V0 m c) (fun w => (dats m 0 c).arrAt w (cfgs 0).N) 3
  exact congrArg (fun X => shapeCast S3x384x19456 X shapeCasts_S1152x19456_S3x384x19456) h

/-- The first argument is not written. -/
theorem tail_arg0 (c : Dev nD) : Pipeline.afterTail₀ cfgs (dats m) 0 (V0 m) [hostOps1] c main_arg0
    = m ((c : Thread nD τ).loc main_arg0) := by
  unfold Pipeline.afterTail₀
  simp only [List.flatten_cons, List.flatten_nil, List.append_nil]
  after_results
  rw [Pipeline.withArrays_of_ne _ _ _ _ _ (by decide)]
  unfold V0 hostOps0
  simp only [List.flatten_cons, List.flatten_nil, List.append_nil]
  after_results

end Cert.KernelIdeal.KVal
end
-- ==== Proof.RefParts.lean ====
module

public import proofs.«01_k».proof.Proof.Gen.ReferenceIdeal.Run
public import Idealize.ShloMosaic.Lib.Pointwise

/-! The reference's composed term, cut into named parts. -/

@[expose] public section

set_option maxRecDepth 16384

noncomputable section

namespace Cert.ReferenceIdeal.Parts

open Idealize.ShloMosaic Idealize.ShloMosaic.TcCoe Idealize.SL.Sem
open Cert.ReferenceIdeal Cert.ReferenceIdeal.Gen

variable {F : FTy → Type} [FloatOps F]

/-- The two-point Hadamard matrix. -/
def base : FVec F S2x2 .f32 := fun i => FloatOps.ofBits .f32 (lit0 (S2x2.rowMajor i))

/-- The Hadamard matrix after 1 Kronecker product with the two-point one. -/
def kron1 : FVec F S2x2 .f32 :=
  shapeCast _ (mulf (broadcastInDim S1x2x1x2 ![0, 1, 2, 3] bcast_S1x1x1x1_S1x2x1x2_0_1_2_3 (broadcastInDim S1x1x1x1 ![0, 2] bcast_S1x1_S1x1x1x1_0_2 (broadcastInDim S1x1 ![] bcast_S_S1x1 (constant S_ .f32 0x3F800000#32)))) (broadcastInDim S1x2x1x2 ![1, 3] bcast_S2x2_S1x2x1x2_1_3 base)) shapeCasts_S1x2x1x2_S2x2

/-- The Hadamard matrix after 2 Kronecker products with the two-point one. -/
def kron2 : FVec F S4x4 .f32 :=
  shapeCast _ (mulf (broadcastInDim S2x2x2x2 ![0, 1, 2, 3] bcast_S2x1x2x1_S2x2x2x2_0_1_2_3 (broadcastInDim S2x1x2x1 ![0, 2] bcast_S2x2_S2x1x2x1_0_2 kron1)) (broadcastInDim S2x2x2x2 ![0, 1, 2, 3] bcast_S1x2x1x2_S2x2x2x2_0_1_2_3 (broadcastInDim S1x2x1x2 ![1, 3] bcast_S2x2_S1x2x1x2_1_3 base))) shapeCasts_S2x2x2x2_S4x4

/-- The Hadamard matrix after 3 Kronecker products with the two-point one. -/
def kron3 : FVec F S8x8 .f32 :=
  shapeCast _ (mulf (broadcastInDim S4x2x4x2 ![0, 1, 2, 3] bcast_S4x1x4x1_S4x2x4x2_0_1_2_3 (broadcastInDim S4x1x4x1 ![0, 2] bcast_S4x4_S4x1x4x1_0_2 kron2)) (broadcastInDim S4x2x4x2 ![0, 1, 2, 3] bcast_S1x2x1x2_S4x2x4x2_0_1_2_3 (broadcastInDim S1x2x1x2 ![1, 3] bcast_S2x2_S1x2x1x2_1_3 base))) shapeCasts_S4x2x4x2_S8x8

/-- The Hadamard matrix after 4 Kronecker products with the two-point one. -/
def kron4 : FVec F S16x16 .f32 :=
  shapeCast _ (mulf (broadcastInDim S8x2x8x2 ![0, 1, 2, 3] bcast_S8x1x8x1_S8x2x8x2_0_1_2_3 (broadcastInDim S8x1x8x1 ![0, 2] bcast_S8x8_S8x1x8x1_0_2 kron3)) (broadcastInDim S8x2x8x2 ![0, 1, 2, 3] bcast_S1x2x1x2_S8x2x8x2_0_1_2_3 (broadcastInDim S1x2x1x2 ![1, 3] bcast_S2x2_S1x2x1x2_1_3 base))) shapeCasts_S8x2x8x2_S16x16

/-- The Hadamard matrix after 5 Kronecker products with the two-point one. -/
def kron5 : FVec F S32x32 .f32 :=
  shapeCast _ (mulf (broadcastInDim S16x2x16x2 ![0, 1, 2, 3] bcast_S16x1x16x1_S16x2x16x2_0_1_2_3 (broadcastInDim S16x1x16x1 ![0, 2] bcast_S16x16_S16x1x16x1_0_2 kron4)) (broadcastInDim S16x2x16x2 ![0, 1, 2, 3] bcast_S1x2x1x2_S16x2x16x2_0_1_2_3 (broadcastInDim S1x2x1x2 ![1, 3] bcast_S2x2_S1x2x1x2_1_3 base))) shapeCasts_S16x2x16x2_S32x32

/-- The Hadamard matrix after 6 Kronecker products with the two-point one. -/
def kron6 : FVec F S64x64 .f32 :=
  shapeCast _ (mulf (broadcastInDim S32x2x32x2 ![0, 1, 2, 3] bcast_S32x1x32x1_S32x2x32x2_0_1_2_3 (broadcastInDim S32x1x32x1 ![0, 2] bcast_S32x32_S32x1x32x1_0_2 kron5)) (broadcastInDim S32x2x32x2 ![0, 1, 2, 3] bcast_S1x2x1x2_S32x2x32x2_0_1_2_3 (broadcastInDim S1x2x1x2 ![1, 3] bcast_S2x2_S1x2x1x2_1_3 base))) shapeCasts_S32x2x32x2_S64x64

/-- The Hadamard matrix after 7 Kronecker products with the two-point one. -/
def kron7 : FVec F S128x128 .f32 :=
  shapeCast _ (mulf (broadcastInDim S64x2x64x2 ![0, 1, 2, 3] bcast_S64x1x64x1_S64x2x64x2_0_1_2_3 (broadcastInDim S64x1x64x1 ![0, 2] bcast_S64x64_S64x1x64x1_0_2 kron6)) (broadcastInDim S64x2x64x2 ![0, 1, 2, 3] bcast_S1x2x1x2_S64x2x64x2_0_1_2_3 (broadcastInDim S1x2x1x2 ![1, 3] bcast_S2x2_S1x2x1x2_1_3 base))) shapeCasts_S64x2x64x2_S128x128

/-- The 128-point Hadamard matrix times the constant. -/
def had : FVec F S128x128 .f32 :=
  mulf kron7 (broadcastInDim S128x128 ![] bcast_S_S128x128 (constant S_ .f32 0x3DB504F3#32))

/-- `x` with every 128-column block multiplied by the Hadamard matrix. -/
def rot (x : FVec F S3x384x2560 .bf16) : FVec F S3x384x2560 .bf16 :=
  truncf .bf16 (shapeCast _ (Host.dotGeneral dot_S3x384x20x128_S128x128_S3x384x20x128_3_0_012_1_n_n (some .fp32) (shapeCast _ (extf .f32 x bitsLt_bf16_f32) shapeCasts_S3x384x2560_S3x384x20x128) had) shapeCasts_S3x384x20x128_S3x384x2560) bitsLt_bf16_f32

/-- The low nibbles, signed, times the first ten rows of scales. -/
def wlo (p : IVec S1280x19456 8) (s : FVec F S20x19456 .bf16) : FVec F S1280x19456 .bf16 :=
  shapeCast _ (mulf (shapeCast _ (sitofp .bf16 (select (cmpi .sge (extsi 32 (trunci 8 (andi (extui 32 p natLt_8_32) (broadcastInDim S1280x19456 ![] bcast_S_S1280x19456 (constantI S_ 32 15#32))) natLt_8_32) natLt_8_32) (broadcastInDim S1280x19456 ![] bcast_S_S1280x19456 (constantI S_ 32 8#32))) (subi (extsi 32 (trunci 8 (andi (extui 32 p natLt_8_32) (broadcastInDim S1280x19456 ![] bcast_S_S1280x19456 (constantI S_ 32 15#32))) natLt_8_32) natLt_8_32) (broadcastInDim S1280x19456 ![] bcast_S_S1280x19456 (constantI S_ 32 16#32))) (extsi 32 (trunci 8 (andi (extui 32 p natLt_8_32) (broadcastInDim S1280x19456 ![] bcast_S_S1280x19456 (constantI S_ 32 15#32))) natLt_8_32) natLt_8_32))) shapeCasts_S1280x19456_S10x128x19456) (broadcastInDim S10x128x19456 ![0, 1, 2] bcast_S10x1x19456_S10x128x19456_0_1_2 (broadcastInDim S10x1x19456 ![0, 2] bcast_S10x19456_S10x1x19456_0_2 (extractStridedSlice S10x19456 ![0, 0] s slices_S20x19456_S10x19456_0_0)))) shapeCasts_S10x128x19456_S1280x19456

/-- The high nibbles, signed, times the last ten rows of scales. -/
def whi (p : IVec S1280x19456 8) (s : FVec F S20x19456 .bf16) : FVec F S1280x19456 .bf16 :=
  shapeCast _ (mulf (shapeCast _ (sitofp .bf16 (select (cmpi .sge (extsi 32 (trunci 8 (Host.shrsi (extui 32 p natLt_8_32) (broadcastInDim S1280x19456 ![] bcast_S_S1280x19456 (constantI S_ 32 4#32))) natLt_8_32) natLt_8_32) (broadcastInDim S1280x19456 ![] bcast_S_S1280x19456 (constantI S_ 32 8#32))) (subi (extsi 32 (trunci 8 (Host.shrsi (extui 32 p natLt_8_32) (broadcastInDim S1280x19456 ![] bcast_S_S1280x19456 (constantI S_ 32 4#32))) natLt_8_32) natLt_8_32) (broadcastInDim S1280x19456 ![] bcast_S_S1280x19456 (constantI S_ 32 16#32))) (extsi 32 (trunci 8 (Host.shrsi (extui 32 p natLt_8_32) (broadcastInDim S1280x19456 ![] bcast_S_S1280x19456 (constantI S_ 32 4#32))) natLt_8_32) natLt_8_32))) shapeCasts_S1280x19456_S10x128x19456) (broadcastInDim S10x128x19456 ![0, 1, 2] bcast_S10x1x19456_S10x128x19456_0_1_2 (broadcastInDim S10x1x19456 ![0, 2] bcast_S10x19456_S10x1x19456_0_2 (extractStridedSlice S10x19456 ![10, 0] s slices_S20x19456_S10x19456_10_0)))) shapeCasts_S10x128x19456_S1280x19456

/-- The reference result over its three arguments. -/
def out (x : FVec F S3x384x2560 .bf16) (p : IVec S1280x19456 8) (s : FVec F S20x19456 .bf16) : FVec F S3x384x19456 .bf16 :=
  truncf .bf16 (addf (Host.dotGeneral dot_S3x384x1280_S1280x19456_S3x384x19456_2_0_01_1_n_n none (extractStridedSlice S3x384x1280 ![0, 0, 0] (rot x) slices_S3x384x2560_S3x384x1280_0_0_0) (wlo p s)) (Host.dotGeneral dot_S3x384x1280_S1280x19456_S3x384x19456_2_0_01_1_n_n none (extractStridedSlice S3x384x1280 ![0, 0, 1280] (rot x) slices_S3x384x2560_S3x384x1280_0_0_1280) (whi p s))) bitsLt_bf16_f32

/-- The reference's run returns `out`. -/
theorem res_eq (m : (ℓ : Loc nD τ sig) → Buf (Elt F) ℓ) (c : Dev nD) :
    Cert.ReferenceIdeal.Value.res_main_v53 m c
      = out (m ((c.tc : Thread nD τ).loc main_arg0)) (m ((c.tc : Thread nD τ).loc main_arg1)) (m ((c.tc : Thread nD τ).loc main_arg2)) := rfl

end Cert.ReferenceIdeal.Parts

end
-- ==== Proof.Equal.lean ====
module

public import proofs.«01_k».proof.Proof.KernelResult
public import proofs.«01_k».proof.Proof.RefParts

/-! The kernel's array is the reference's, at every index. -/

@[expose] public section

set_option maxRecDepth 16384

noncomputable section

namespace Cert.Equal

open Idealize.ShloMosaic Idealize.ShloMosaic.TcCoe Idealize.ShloMosaic.Tactic
open Cert.Words

/-- The f32 constant minus one. -/
theorem neg_one : Ideal.ofBits .f32 0xBF800000#32 = ((-1 : ℝ) : EReal) := by
  simp [Ideal.ofBits, Ideal.ieee, -EReal.coe_mul, -EReal.coe_neg]; norm_num

/-- The scaling constant is a nonnegative real. -/
theorem scale_real : ∃ r : ℝ, 0 ≤ r ∧ Ideal.ofBits .f32 0x3DB504F3#32 = (r : EReal) := by
  refine ⟨11863283 / 134217728, by norm_num, ?_⟩
  simp [Ideal.ofBits, Ideal.ieee, -EReal.coe_mul]; norm_num

/-- The scaling constant of the rotation is not negative. -/
theorem scale_nonneg : 0 ≤ Ideal.ofBits .f32 0x3DB504F3#32 := by
  obtain ⟨r, hr, e⟩ := scale_real
  rw [e]; exact_mod_cast hr

/-- The scaling constant of the rotation is finite. -/
theorem scale_ne_top : Ideal.ofBits .f32 0x3DB504F3#32 ≠ ⊤ := by
  obtain ⟨r, hr, e⟩ := scale_real
  rw [e]; exact EReal.coe_ne_top r

/-- A nonnegative finite factor goes through a sum of extended reals. -/
theorem sum_scale {ι : Type*} (S : Finset ι) (f : ι → EReal) (c : EReal) (h0 : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 ht, ih]

section Ref
open Cert.ReferenceIdeal Cert.ReferenceIdeal.Parts

/-- The two-point matrix, as integers. -/
theorem base_at (i j : Fin 2) : base (F := Ideal) (ix2 i j) = (((hbase i j : ℤ) : ℝ) : EReal) := by
  have hb : base (F := Ideal) (ix2 i j) = Ideal.ofBits .f32 (lit0 (S2x2.rowMajor (ix2 i j))) := rfl
  have hl : ∀ i j : Fin 2, lit0 (S2x2.rowMajor (ix2 i j)) = if i.val = 1 ∧ j.val = 1 then 0xBF800000#32 else 0x3F800000#32 := by
    decide +kernel
  rw [hb, hl]
  unfold hbase
  split
  · rw [neg_one]; norm_num
  · rw [Ideal.ofBits_one_f32]; norm_num

/-- One Kronecker step on sign entries, as extended reals. -/
theorem hz_step (n i j : ℕ) : (((hz n (i / 2) (j / 2) : ℤ) : ℝ) : EReal) * (((hbase (i % 2) (j % 2) : ℤ) : ℝ) : EReal)
    = (((hz (n + 1) i j : ℤ) : ℝ) : EReal) := by
  rw [← EReal.coe_mul, ← Int.cast_mul]; rfl

/-- Kronecker power 1 of the two by two sign matrix, entry by entry. -/
theorem kron1_at (i j : Fin 2) : kron1 (F := Ideal) (ix2 i j) = (((hz 1 i j : ℤ) : ℝ) : EReal) := by
  pointwise [kron1]
  rw [base_at]
  simp only [hz, one_mul, Nat.mod_eq_of_lt i.isLt, Nat.mod_eq_of_lt j.isLt]

/-- Kronecker power 2 of the two by two sign matrix, entry by entry. -/
theorem kron2_at (i j : Fin 4) : kron2 (F := Ideal) (ix2 i j) = (((hz 2 i j : ℤ) : ℝ) : EReal) := by
  pointwise [kron2]
  rw [kron1_at, base_at]
  exact hz_step 1 i j

/-- Kronecker power 3 of the two by two sign matrix, entry by entry. -/
theorem kron3_at (i j : Fin 8) : kron3 (F := Ideal) (ix2 i j) = (((hz 3 i j : ℤ) : ℝ) : EReal) := by
  pointwise [kron3]
  rw [kron2_at, base_at]
  exact hz_step 2 i j

/-- Kronecker power 4 of the two by two sign matrix, entry by entry. -/
theorem kron4_at (i j : Fin 16) : kron4 (F := Ideal) (ix2 i j) = (((hz 4 i j : ℤ) : ℝ) : EReal) := by
  pointwise [kron4]
  rw [kron3_at, base_at]
  exact hz_step 3 i j

/-- Kronecker power 5 of the two by two sign matrix, entry by entry. -/
theorem kron5_at (i j : Fin 32) : kron5 (F := Ideal) (ix2 i j) = (((hz 5 i j : ℤ) : ℝ) : EReal) := by
  pointwise [kron5]
  rw [kron4_at, base_at]
  exact hz_step 4 i j

/-- Kronecker power 6 of the two by two sign matrix, entry by entry. -/
theorem kron6_at (i j : Fin 64) : kron6 (F := Ideal) (ix2 i j) = (((hz 6 i j : ℤ) : ℝ) : EReal) := by
  pointwise [kron6]
  rw [kron5_at, base_at]
  exact hz_step 5 i j

/-- Kronecker power 7 of the two by two sign matrix, entry by entry. -/
theorem kron7_at (i j : Fin 128) : kron7 (F := Ideal) (ix2 i j) = (((hz 7 i j : ℤ) : ℝ) : EReal) := by
  pointwise [kron7]
  rw [kron6_at, base_at]
  exact hz_step 6 i j

/-- The reference's Hadamard matrix: signs times the constant. -/
theorem had_at (i j : Fin 128) : had (F := Ideal) (ix2 i j) = (((hz 7 i j : ℤ) : ℝ) : EReal) * Ideal.ofBits .f32 0x3DB504F3#32 := by
  pointwise [had]
  rw [kron7_at]

/-- The rotated activations of the reference. -/
theorem rot_at (x : FVec Ideal S3x384x2560 .bf16) (a : Fin 3) (b : Fin 384) (k : Fin 2560) :
    rot x (ix3 a b k) = ∑ j : Fin 128, x (ix3 a b ⟨k.val / 128 * 128 + j.val, by omega⟩)
      * ((((hz 7 j.val (k.val % 128) : ℤ) : ℝ) : EReal) * Ideal.ofBits .f32 0x3DB504F3#32) := by
  pointwise [rot]
  simp only [had_at]

end Ref
section Ker
open Cert.KernelIdeal Cert.KernelIdeal.KVal Cert.KernelIdeal.Gen

/-- An entry of the kernel's block-diagonal sign matrix. -/
theorem sgn_at (i j : Fin 256) : sgn (ix2 i j)
    = if i.val / 128 = j.val / 128 then (((hz 7 (i.val % 128) (j.val % 128) : ℤ) : ℝ) : EReal) else 0 := by
  pointwise [sgn, k0_pay5, k0_pay3, k0_pay4]
  refine (sign_entry i j _ _ _).trans ?_
  split
  · rcases hz_sq 7 (i.val % 128) (j.val % 128) with h | h
    · rw [h, if_neg (by decide)]; norm_num
    · rw [h, if_pos rfl, neg_one]; norm_num
  · rfl

/-- A sum over a 256-column block against the signs keeps the 128 columns of one half. -/
theorem half_sum (f : Fin 256 → EReal) (l : Fin 256) :
    ∑ i : Fin 256, f i * sgn (ix2 i l)
      = ∑ j : Fin 128, f ⟨l.val / 128 * 128 + j.val, by omega⟩ * (((hz 7 j.val (l.val % 128) : ℤ) : ℝ) : EReal) := by
  rw [Fin.sum_univ_two_halves 128 128 rfl]
  simp only [sgn_at]
  have hl : l.val / 128 = 0 ∨ l.val / 128 = 1 := by omega
  rcases hl with h | h
  · have e1 : ∀ k : Fin 128, k.val / 128 = 0 := fun k => by omega
    have e2 : ∀ k : Fin 128, ¬ (128 + k.val) / 128 = 0 := fun k => by omega
    have e3 : ∀ k : Fin 128, k.val % 128 = k.val := fun k => by omega
    simp only [h, e1, e2, e3, if_true, if_false, mul_zero, Finset.sum_const_zero, add_zero, zero_mul, zero_add]
  · have e1 : ∀ k : Fin 128, ¬ k.val / 128 = 1 := fun k => by omega
    have e2 : ∀ k : Fin 128, (128 + k.val) / 128 = 1 := fun k => by omega
    have e3 : ∀ k : Fin 128, (128 + k.val) % 128 = k.val := fun k => by omega
    simp only [h, e1, e2, e3, if_true, if_false, mul_zero, Finset.sum_const_zero, one_mul, zero_add]

/-- The rotated activations of the kernel. -/
theorem rotX_at (x : FVec Ideal S1152x2560 .bf16) (r : Fin 1152) (k : Fin 2560) :
    rotX x (ix2 r k) = ∑ j : Fin 128, x (ix2 r ⟨k.val / 128 * 128 + j.val, by omega⟩)
      * ((((hz 7 j.val (k.val % 128) : ℤ) : ℝ) : EReal) * Ideal.ofBits .f32 0x3DB504F3#32) := by
  show (∑ i : Fin 256, x (ix2 r ⟨k.val / 256 * 256 + i.val, _⟩) * sgn (ix2 i ⟨k.val % 256, _⟩)) * Ideal.ofBits .f32 0x3DB504F3#32 = _
  rw [half_sum (fun i => x (ix2 r ⟨k.val / 256 * 256 + i.val, by omega⟩)) ⟨k.val % 256, by omega⟩,
    sum_scale _ _ _ scale_nonneg scale_ne_top]
  refine Finset.sum_congr rfl fun j _ => ?_
  rw [mul_assoc]
  have e1 : k.val / 256 * 256 + (k.val % 256 / 128 * 128 + j.val) = k.val / 128 * 128 + j.val := by omega
  have e2 : k.val % 256 % 128 = k.val % 128 := by omega
  simp only [e1, e2]

end Ker

/-- An entry of the kernel's weights in the first half of the rows is the reference's low-nibble weight. -/
theorem deq_lo (p : IVec Cert.KernelIdeal.S1280x19456 8) (s : FVec Ideal Cert.KernelIdeal.S20x19456 .bf16) (k : Fin 1280) (n : Fin 19456) :
    Cert.KernelIdeal.KVal.deq p s ⟨k.val, by omega⟩ n = Cert.ReferenceIdeal.Parts.wlo (F := Ideal) p s (ix2 k n) := by
  have e : decide (k.val < 1280) = true := decide_eq_true k.isLt
  unfold Cert.KernelIdeal.KVal.deq
  simp only [e]
  pointwise [Cert.ReferenceIdeal.Parts.wlo]
  have h := nib_lo (p (ix2 k n))
  rw [← h]
  simp only [Cert.KernelIdeal.KVal.nib, if_true, Nat.mod_eq_of_lt k.isLt]

/-- An entry of the second half is the reference's high-nibble weight. -/
theorem deq_hi (p : IVec Cert.KernelIdeal.S1280x19456 8) (s : FVec Ideal Cert.KernelIdeal.S20x19456 .bf16) (k : Fin 1280) (n : Fin 19456) :
    Cert.KernelIdeal.KVal.deq p s ⟨1280 + k.val, by omega⟩ n = Cert.ReferenceIdeal.Parts.whi (F := Ideal) p s (ix2 k n) := by
  have e : decide (1280 + k.val < 1280) = false := decide_eq_false (by omega)
  unfold Cert.KernelIdeal.KVal.deq
  simp only [e]
  pointwise [Cert.ReferenceIdeal.Parts.whi]
  have h := nib_hi (p (ix2 k n))
  rw [← h]
  have e1 : (1280 + k.val) % 1280 = k.val := by omega
  have e2 : (1280 + k.val) / 128 = 10 + k.val / 128 := by omega
  simp only [Cert.KernelIdeal.KVal.nib, if_false, Bool.false_eq_true, e1, e2]

/-- Kernel and reference, over the same three arguments. -/
theorem kernel_eq (x : FVec Ideal Cert.KernelIdeal.S3x384x2560 .bf16) (p : IVec Cert.KernelIdeal.S1280x19456 8) (s : FVec Ideal Cert.KernelIdeal.S20x19456 .bf16) :
    Cert.ReferenceIdeal.Parts.out x p s
      = shapeCast Cert.KernelIdeal.S3x384x19456
          (Cert.KernelIdeal.KVal.kout (shapeCast Cert.KernelIdeal.S1152x2560 x Cert.KernelIdeal.Gen.shapeCasts_S3x384x2560_S1152x2560) p s)
          Cert.KernelIdeal.Gen.shapeCasts_S1152x19456_S3x384x19456 := by
  funext y
  obtain ⟨a, b, n, rfl⟩ : ∃ (a : Fin 3) (b : Fin 384) (n : Fin 19456), y = ix3 a b n := ⟨y 0, y 1, y 2, eq_ix3 y⟩
  pointwise [Cert.ReferenceIdeal.Parts.out, Cert.KernelIdeal.KVal.kout]
  rw [Fin.sum_univ_two_halves 1280 1280 rfl]
  have hr : ∀ k : Fin 2560, Cert.KernelIdeal.KVal.rotX (shapeCast Cert.KernelIdeal.S1152x2560 x Cert.KernelIdeal.Gen.shapeCasts_S3x384x2560_S1152x2560)
      (ix2 ⟨a.val * 384 + b.val, by omega⟩ k) = Cert.ReferenceIdeal.Parts.rot x (ix3 a b k) := by
    intro k
    rw [rotX_at, rot_at]
    refine Finset.sum_congr rfl fun j _ => congrArg (· * _) ?_
    pointwise
  simp only [← deq_lo, ← deq_hi, ← hr]

end Cert.Equal
end
-- ==== Proof.lean ====
/- The proof of the claim: the frames of the three programs, and the equality of the kernel with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import proofs.«01_k».proof.Proof.Equal

@[expose] public section

noncomputable section

namespace Cert.Proof

open Idealize.ShloMosaic Idealize.SL.Sem Cert.Kernel

/-- The reference's run leaves its arguments as they were; it declares no semaphore. -/
theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Kernel and reference return the same array. -/
theorem algebraic : Cert.algebraic_KernelIdeal_ReferenceIdeal := by
  pair_intro
  · run_from Cert.KernelIdeal.Gen.run_main m g
    exact Cert.KernelIdeal.KVal.tail_arg0 m c
  · run_from Cert.ReferenceIdeal.Value.run (F := Ideal) m' g'
    rw [Cert.ReferenceIdeal.Parts.res_eq, (hagree c).1, (hagree c).2.1, (hagree c).2.2, Cert.KernelIdeal.KVal.tail_out m c,
      Cert.KernelIdeal.KVal.xin_eq]
    exact Cert.Equal.kernel_eq _ _ _

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_r, trivial, algebraic⟩

end Cert.Proof

end
